-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000x1x512 : Shape := ⟨3, ![1000, 1, 512]⟩
abbrev S4x512 : Shape := ⟨2, ![4, 512]⟩
abbrev S1000x72x512 : Shape := ⟨3, ![1000, 72, 512]⟩
abbrev S77x1000x512 : Shape := ⟨3, ![77, 1000, 512]⟩
abbrev S88x1x512 : Shape := ⟨3, ![88, 1, 512]⟩
abbrev S88x72x512 : Shape := ⟨3, ![88, 72, 512]⟩
abbrev S77x88x512 : Shape := ⟨3, ![77, 88, 512]⟩
abbrev S1x88x512 : Shape := ⟨3, ![1, 88, 512]⟩
abbrev S4x1x512 : Shape := ⟨3, ![4, 1, 512]⟩
abbrev S4x88x512 : Shape := ⟨3, ![4, 88, 512]⟩
abbrev S72x88x512 : Shape := ⟨3, ![72, 88, 512]⟩
abbrev S1000x77x512 : Shape := ⟨3, ![1000, 77, 512]⟩

abbrev nBuf : Space → Nat
  | .hbm => 5
  | .vmem => 7
  | .smem => 0
  | _ => 0

abbrev bufTy : (tb : Table) → Fin (tcTables nBuf tb) → BufTy
  | .hbm, ⟨0, _⟩ => ⟨S1000x1x512, .f32⟩
  | .hbm, ⟨1, _⟩ => ⟨S4x512, .f32⟩
  | .hbm, ⟨2, _⟩ => ⟨S1000x72x512, .f32⟩
  | .hbm, ⟨3, _⟩ => ⟨S77x1000x512, .f32⟩
  | .hbm, ⟨4, _⟩ => ⟨S1000x77x512, .f32⟩
  | .local _ .vmem, ⟨0, _⟩ => ⟨S88x1x512, .f32⟩
  | .local _ .vmem, ⟨1, _⟩ => ⟨S88x1x512, .f32⟩
  | .local _ .vmem, ⟨2, _⟩ => ⟨S4x512, .f32⟩
  | .local _ .vmem, ⟨3, _⟩ => ⟨S88x72x512, .f32⟩
  | .local _ .vmem, ⟨4, _⟩ => ⟨S88x72x512, .f32⟩
  | .local _ .vmem, ⟨5, _⟩ => ⟨S77x88x512, .f32⟩
  | .local _ .vmem, ⟨6, _⟩ => ⟨S77x88x512, .f32⟩
  | _, _ => ⟨S1000x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S88x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S88x72x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S77x88x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1000x1x512 : Shape := ⟨3, ![1000, 1, 512]⟩
abbrev S4x512 : Shape := ⟨2, ![4, 512]⟩
abbrev S1000x72x512 : Shape := ⟨3, ![1000, 72, 512]⟩
abbrev S1x4x512 : Shape := ⟨3, ![1, 4, 512]⟩
abbrev S1000x4x512 : Shape := ⟨3, ![1000, 4, 512]⟩
abbrev S1000x77x512 : Shape := ⟨3, ![1000, 77, 512]⟩

abbrev nBuf : Space → Nat
  | .hbm => 6
  | .vmem => 0
  | .smem => 0
  | _ => 0

abbrev bufTy : (tb : Table) → Fin (tcTables nBuf tb) → BufTy
  | .hbm, ⟨0, _⟩ => ⟨S1000x1x512, .f32⟩
  | .hbm, ⟨1, _⟩ => ⟨S4x512, .f32⟩
  | .hbm, ⟨2, _⟩ => ⟨S1000x72x512, .f32⟩
  | .hbm, ⟨3, _⟩ => ⟨S1x4x512, .f32⟩
  | .hbm, ⟨4, _⟩ => ⟨S1000x4x512, .f32⟩
  | .hbm, ⟨5, _⟩ => ⟨S1000x77x512, .f32⟩
  | _, _ => ⟨S1000x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Rows.lean ====
/-
  The mathematics the kernel and the reference share, over any element type: an array of 77 rows per class, of which row
  0 is the class's prefix, rows 1 to 4 are the context every class shares, and rows 5 to 76 are the class's suffix. The
  kernel builds it with the row as the OUTER axis (`stacked`), block of classes by block of classes.
-/
module

public import Idealize.ShloMosaic.Lib.Pipeline.Value
public import Idealize.ShloMosaic.Lib.ValueIdxCore

@[expose] public section

noncomputable section

namespace Cert.Rows

open Idealize.ShloMosaic Idealize.ShloMosaic.ValueIdx

variable {α : Type} {n : Nat}

/-- The prefixes of `n` classes, one row each. -/
abbrev Pre (n : Nat) : Shape := ⟨3, ![n, 1, 512]⟩
/-- The shared context, four rows. -/
abbrev Ctx : Shape := ⟨2, ![4, 512]⟩
/-- The suffixes of `n` classes, 72 rows each. -/
abbrev Suf (n : Nat) : Shape := ⟨3, ![n, 72, 512]⟩
/-- All 77 rows of `n` classes, the row the outer axis. -/
abbrev All (n : Nat) : Shape := ⟨3, ![77, n, 512]⟩

/-- The 77 rows of `n` classes, stacked: at row `r` and class `b`, the prefix of `b` when `r = 0`, row `r - 1` of the
    context when `r` is 1 to 4, row `r - 5` of the suffix of `b` otherwise. -/
def stacked (pre : (Pre n).Idx → α) (ctx : Ctx.Idx → α) (suf : (Suf n).Idx → α) : (All n).Idx → α := fun j =>
  if h₀ : (j 0).val < 1 then pre (ix3 (j 1) ⟨(j 0).val, h₀⟩ (j 2))
  else if h₁ : (j 0).val < 5 then ctx (ix2 ⟨(j 0).val - 1, by omega⟩ (j 2))
  else suf (ix3 (j 1) ⟨(j 0).val - 5, by have : (j 0).val < 77 := (j 0).isLt; omega⟩ (j 2))

variable (pre : (Pre n).Idx → α) (ctx : Ctx.Idx → α) (suf : (Suf n).Idx → α)

/-- On row 0 the stack is the prefix, read at the same class and lane. -/
theorem stacked_pre (j : (All n).Idx) (i : (Pre n).Idx) (h₀ : (j 0).val = 0)
    (h₁ : (i 0).val = (j 1).val) (h₂ : (i 2).val = (j 2).val) : stacked pre ctx suf j = pre i := by
  unfold stacked
  rw [dif_pos (by omega)]
  have hi : (i 1).val < 1 := (i 1).isLt
  refine congrArg pre (funext fun a => Fin.ext ?_)
  match a with
  | ⟨0, _⟩ => exact h₁.symm
  | ⟨1, _⟩ => exact (show (j 0).val = (i 1).val by omega)
  | ⟨2, _⟩ => exact h₂.symm

/-- On rows 1 to 4 it is the context, one row up, at the same lane, whatever the class. -/
theorem stacked_ctx (j : (All n).Idx) (i : Ctx.Idx) (h₀ : (j 0).val = 1 + (i 0).val)
    (h₂ : (i 1).val = (j 2).val) : stacked pre ctx suf j = ctx i := by
  have hi : (i 0).val < 4 := (i 0).isLt
  unfold stacked
  rw [dif_neg (by omega), dif_pos (by omega)]
  refine congrArg ctx (funext fun a => Fin.ext ?_)
  match a with
  | ⟨0, _⟩ => exact (show (j 0).val - 1 = (i 0).val by omega)
  | ⟨1, _⟩ => exact h₂.symm

/-- On rows 5 to 76 it is the suffix, five rows up, at the same class and lane. -/
theorem stacked_suf (j : (All n).Idx) (i : (Suf n).Idx) (h₀ : (j 0).val = 5 + (i 1).val)
    (h₁ : (i 0).val = (j 1).val) (h₂ : (i 2).val = (j 2).val) : stacked pre ctx suf j = suf i := by
  unfold stacked
  rw [dif_neg (by omega), dif_neg (by omega)]
  refine congrArg suf (funext fun a => Fin.ext ?_)
  match a with
  | ⟨0, _⟩ => exact h₁.symm
  | ⟨1, _⟩ => exact (show (j 0).val - 5 = (i 1).val by omega)
  | ⟨2, _⟩ => exact h₂.symm

/-- Two stacks, of `n` and of `n'` classes, agree at one row and lane of a class of each when the prefixes and the
    suffixes agree on those two classes and the contexts are one. -/
theorem stacked_congr {n' : Nat} (pre' : (Pre n').Idx → α) (suf' : (Suf n').Idx → α) (j : (All n).Idx) (j' : (All n').Idx)
    (h₀ : (j 0).val = (j' 0).val) (h₂ : (j 2).val = (j' 2).val)
    (hpre : ∀ (i : (Pre n).Idx) (i' : (Pre n').Idx), (i 0).val = (j 1).val → (i' 0).val = (j' 1).val →
      (i 1).val = (i' 1).val → (i 2).val = (i' 2).val → pre i = pre' i')
    (hsuf : ∀ (i : (Suf n).Idx) (i' : (Suf n').Idx), (i 0).val = (j 1).val → (i' 0).val = (j' 1).val →
      (i 1).val = (i' 1).val → (i 2).val = (i' 2).val → suf i = suf' i') :
    stacked pre ctx suf j = stacked pre' ctx suf' j' := by
  have hj : (j 0).val < 77 := (j 0).isLt
  by_cases c₀ : (j 0).val = 0
  · rw [stacked_pre pre ctx suf j (ix3 (j 1) (0 : Fin 1) (j 2)) c₀ rfl rfl,
      stacked_pre pre' ctx suf' j' (ix3 (j' 1) (0 : Fin 1) (j' 2)) (h₀ ▸ c₀) rfl rfl]
    exact hpre _ _ rfl rfl rfl h₂
  by_cases c₁ : (j 0).val < 5
  · rw [stacked_ctx pre ctx suf j (ix2 (⟨(j 0).val - 1, by omega⟩ : Fin 4) (j 2)) (show _ = 1 + ((j 0).val - 1) by omega) rfl,
      stacked_ctx pre' ctx suf' j' (ix2 (⟨(j 0).val - 1, by omega⟩ : Fin 4) (j 2)) (show _ = 1 + ((j 0).val - 1) by omega) h₂]
  · rw [stacked_suf pre ctx suf j (ix3 (j 1) (⟨(j 0).val - 5, by omega⟩ : Fin 72) (j 2)) (show _ = 5 + ((j 0).val - 5) by omega) rfl rfl,
      stacked_suf pre' ctx suf' j' (ix3 (j' 1) (⟨(j 0).val - 5, by omega⟩ : Fin 72) (j' 2)) (show _ = 5 + ((j 0).val - 5) by omega) rfl rfl]
    exact hsuf _ _ rfl rfl rfl h₂

end Cert.Rows

end
-- ==== Proof.Body.lean ====
/-
  What ONE block computes: the kernel's body on a block of 88 classes. Whatever its three input buffers hold, it leaves
  the output buffer holding their stack (`Rows.stacked`): row 0 the prefixes, rows 1 to 4 the context repeated for every
  class, rows 5 to 76 the suffixes.
-/
module

public import proofs.«01_k».proof.Proof.Rows
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.Concat

open Cert.KernelIdeal Cert.KernelIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-! ## The three stores -/

/-- The rectangle of the first store: row 0 of the block. -/
abbrev rect₀ : Rect S77x88x512 := Rect.unit ![0, 0, 0] S1x88x512.size inb_S77x88x512_S1x88x512_0_0_0
/-- The second's: rows 1 to 4. -/
abbrev rect₁ : Rect S77x88x512 := Rect.unit ![1, 0, 0] S4x88x512.size inb_S77x88x512_S4x88x512_1_0_0
/-- The third's: rows 5 to 76. -/
abbrev rect₅ : Rect S77x88x512 := Rect.unit ![5, 0, 0] S72x88x512.size inb_S77x88x512_S72x88x512_5_0_0

variable (x0 : Vec F S88x1x512 .f32) (x1 : Vec F S4x512 .f32) (x2 : Vec F S88x72x512 .f32)

/-- The body's stores, the last one first: the transposed suffixes, the repeated context, the transposed prefixes. -/
abbrev stores : List (View.Piece (Elt F) S77x88x512 .f32) :=
  [⟨rect₅, k0_pay3 x2⟩, ⟨rect₁, k0_pay2 x1⟩, ⟨rect₀, k0_pay1 x0⟩]

/-- Between them the stores write the whole block. -/
theorem stores_cover (y : S77x88x512.Idx) : ∃ p ∈ stores x0 x1 x2, y ∈ p.1.set :=
  View.cover_of_tiledBy (stores x0 x1 x2) ![1, 88, 512] (by sl_kernel_rfl) y

/-- The first store's value is row 0 of the stack. -/
theorem pay1_apply (j : S1x88x512.Idx) : k0_pay1 x0 j = stacked (n := 88) x0 x1 x2 (rect₀.emb j) := by
  have hj : (j 0).val < 1 := (j 0).isLt
  rw [stacked_pre (n := 88) x0 x1 x2 (rect₀.emb j) (ix3 (j 1) (j 0) (j 2))
    (show 0 + 1 * (j 0).val = 0 by omega) (show (j 1).val = 0 + 1 * (j 1).val by omega) (show (j 2).val = 0 + 1 * (j 2).val by omega)]
  unfold k0_pay1
  refine transpose_apply _ _ _ _ _ fun b => ?_
  match b with
  | ⟨0, _⟩ => rfl
  | ⟨1, _⟩ => rfl
  | ⟨2, _⟩ => rfl

/-- The third store's is its rows 5 to 76. -/
theorem pay3_apply (j : S72x88x512.Idx) : k0_pay3 x2 j = stacked (n := 88) x0 x1 x2 (rect₅.emb j) := by
  rw [stacked_suf (n := 88) x0 x1 x2 (rect₅.emb j) (ix3 (j 1) (j 0) (j 2))
    (show 5 + 1 * (j 0).val = 5 + (j 0).val by omega) (show (j 1).val = 0 + 1 * (j 1).val by omega) (show (j 2).val = 0 + 1 * (j 2).val by omega)]
  unfold k0_pay3
  refine transpose_apply _ _ _ _ _ fun b => ?_
  match b with
  | ⟨0, _⟩ => rfl
  | ⟨1, _⟩ => rfl
  | ⟨2, _⟩ => rfl

/-- The second store's is its rows 1 to 4: each context row given a unit class axis and repeated along it. -/
theorem pay2_apply (j : S4x88x512.Idx) : k0_pay2 x1 j = stacked (n := 88) x0 x1 x2 (rect₁.emb j) := by
  rw [stacked_ctx (n := 88) x0 x1 x2 (rect₁.emb j) (ix2 (j 0) (j 2))
    (show 1 + 1 * (j 0).val = 1 + (j 0).val by omega) (show (j 2).val = 0 + 1 * (j 2).val by omega)]
  unfold k0_pay2
  refine (broadcastTo_apply _ _ j (ix3 (j 0) (0 : Fin 1) (j 2)) fun a => ?_).trans ?_
  · match a with
    | ⟨0, _⟩ => rfl
    | ⟨1, _⟩ => rfl
    | ⟨2, _⟩ => rfl
  refine (shapeCast_apply _ _ _ (ix3 (j 0) (0 : Fin 1) (j 2)) rfl).trans ?_
  refine shapeCast_apply _ _ _ _ ?_
  refine (Shape.rowMajor_val_two _).trans (Eq.trans ?_ (Shape.rowMajor_val_three _).symm)
  show (j 0).val * 512 + (j 2).val = ((j 0).val * 1 + 0) * 512 + (j 2).val
  omega

/-- What the three stores leave in the block is the stack of the inputs. -/
theorem canon_stores : View.canon (stores x0 x1 x2) = stacked (n := 88) x0 x1 x2 := by
  funext y
  refine View.canon_apply_of_pieces _ _ (fun p hp => ?_) y (stores_cover x0 x1 x2 y)
  rcases List.mem_cons.mp hp with rfl | hp
  · exact pay3_apply x0 x1 x2
  rcases List.mem_cons.mp hp with rfl | hp
  · exact pay2_apply x0 x1 x2
  rcases List.mem_cons.mp hp with rfl | hp
  · exact pay1_apply x0 x1 x2
  · exact absurd hp List.not_mem_nil

/-! ## The body -/

/-- The offsets of a load of a whole rank-3 buffer are zero on every axis, -/
theorem off3 : (![0, 0, 0] : Fin 3 → Nat) = fun _ => 0 := funext fun a => by match a with | ⟨0, _⟩ => rfl | ⟨1, _⟩ => rfl | ⟨2, _⟩ => rfl
/-- and those of a load of a whole rank-2 buffer. -/
theorem off2 : (![0, 0] : Fin 2 → Nat) = fun _ => 0 := funext fun a => by match a with | ⟨0, _⟩ => rfl | ⟨1, _⟩ => rfl

/-- The body run on whole buffers holding `x0`, `x1`, `x2` and, the output's, anything: it gives the inputs back as
    they were and the output buffer holding their stack. -/
theorem body_runs (c : Dev nD) (i : grid0.Coords) (arg1 : Memref sig .tc .vmem S88x1x512 .f32) (harg1 : arg1.IsWhole)
    (arg2 : Memref sig .tc .vmem S4x512 .f32) (harg2 : arg2.IsWhole) (arg3 : Memref sig .tc .vmem S88x72x512 .f32) (harg3 : arg3.IsWhole)
    (arg4 : Memref sig .tc .vmem S77x88x512 .f32) (harg4 : arg4.IsWhole) (E : Set ℕ) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (stacked (n := 88) x0 x1 x2)) -∗ K ⟨⟩))
      ⊢ wp frame (wpE (defs₀ (F := F)) Variants.none c none) E (cc0__concat_kernel i arg1 harg1 arg2 harg2 arg3 harg3 arg4 harg4) K := by
  simp only [cc0__concat_kernel_eq_skeleton]; unfold cc0__concat_kernel_skel
  unfold owns
  iintro ⟨⟨%f0, %hf0, H0⟩, ⟨%f1, %hf1, H1⟩, ⟨%f2, %hf2, H2⟩, ⟨%d3, %f3, -, H3⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [View.readAt_eq_ld, View.readAt_eq_ld, View.readAt_eq_ld, View.ld_unit_zero off3, View.ld_unit_zero off2,
    View.ld_unit_zero off3, hf0, hf1, hf2]
  exact (View.read_writes_eq_canon arg4.view f3 (stores x0 x1 x2) (stores_cover x0 x1 x2)).trans (canon_stores x0 x1 x2)

end Cert.Concat

end
-- ==== Proof.Blocks.lean ====
/-
  What one grid point's block IS, as part of the whole arrays: 88 consecutive classes (the last point, 32 — its block
  overhangs the array, and its transfers are cut at the array's end). The stack of a point's input blocks, cut at the
  array's end, is the point's block of the stack of the whole arrays, whatever the buffers hold past the end.
-/
module

public import proofs.«01_k».proof.Proof.Body
public import Idealize.ShloMosaic.Lib.Pipeline.ValueKit.Geometry

@[expose] public section

set_option maxRecDepth 16384

noncomputable section

namespace Cert.Concat

open Cert.KernelIdeal Cert.KernelIdeal.Gen Cert.Rows
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ)

/-! ## A fetched block at an element -/

/-- A staging buffer after the fetch of a (possibly cut) block of `A` holds, at an element `j` the transfer moves, the
    element `k` of the array that lies at the block's offset plus `j`; what it held before plays no part. -/
theorem fill_read_apply {G : Pipeline.Grid} (w : Window sig G) (t : Fin G.N) (hk : w.kind = .blocked)
    (A : w.arr.view.ty.Contents (Elt F)) (d : w.block.Idx → Elt F w.elt) (j : w.block.Idx) (k : w.shape.Idx)
    (hj : ∀ a, (j a).val < w.xsize (G.coords t) a) (hjk : ∀ a, (k a).val = w.index t a * w.size a + (j a).val) :
    w.fill (G.coords t) d ((w.blk t).view.read (Elt F) A) j = w.arr.view.read (Elt F) A k := by
  unfold Window.fill
  rw [dif_pos ((w.moved_iff _ _).mpr hj)]
  refine congrArg (w.arr.view.read (Elt F) A) (funext fun a => Fin.ext ?_)
  exact (w.rect_emb_val t (fun a => ⟨(j a).val, hj a⟩) a hk).trans (hjk a).symm

/-! ## The block indices and the cuts, point by point -/

/-- The prefix block of point `t` is number `t` along the classes, -/
theorem index_0 (t : Fin grid0.N) : win0_0.index t = ![t.val, 0, 0] := by
  rcases fin_N0 t with rfl | rfl | rfl | rfl | rfl | rfl | rfl | rfl | rfl | rfl | rfl | rfl <;> decide +kernel
/-- the context's is the whole context, -/
theorem index_1 (t : Fin grid0.N) : win0_1.index t = ![0, 0] := by
  rcases fin_N0 t with rfl | rfl | rfl | rfl | rfl | rfl | rfl | rfl | rfl | rfl | rfl | rfl <;> decide +kernel
/-- the suffix block is number `t` along the classes, -/
theorem index_2 (t : Fin grid0.N) : win0_2.index t = ![t.val, 0, 0] := by
  rcases fin_N0 t with rfl | rfl | rfl | rfl | rfl | rfl | rfl | rfl | rfl | rfl | rfl | rfl <;> decide +kernel
/-- and so is the output's, whose classes are the middle axis. -/
theorem index_3 (t : Fin grid0.N) : win0_3.index t = ![0, t.val, 0] := by
  rcases fin_N0 t with rfl | rfl | rfl | rfl | rfl | rfl | rfl | rfl | rfl | rfl | rfl | rfl <;> decide +kernel

/-- The prefix's transfer is cut to as many classes as the output's, and moves every row and lane, -/
theorem xsize_0 (t : Fin grid0.N) : win0_0.xsize (grid0.coords t) = ![win0_3.xsize (grid0.coords t) 1, 1, 512] := by
  rcases fin_N0 t with rfl | rfl | rfl | rfl | rfl | rfl | rfl | rfl | rfl | rfl | rfl | rfl <;> decide +kernel
/-- and so is the suffix's. -/
theorem xsize_2 (t : Fin grid0.N) : win0_2.xsize (grid0.coords t) = ![win0_3.xsize (grid0.coords t) 1, 72, 512] := by
  rcases fin_N0 t with rfl | rfl | rfl | rfl | rfl | rfl | rfl | rfl | rfl | rfl | rfl | rfl <;> decide +kernel

/-! ## The blocks as parts of the arrays -/

/-- The stack of the whole argument arrays, all 1000 classes: what the kernel's output array is to hold. -/
def whole (c : Dev nD) : S77x1000x512.Idx → Elt F .f32 :=
  stacked (n := 1000) (m ((c : Thread nD τ).loc main_arg0)) (m ((c : Thread nD τ).loc main_arg1)) (m ((c : Thread nD τ).loc main_arg2))

/-- The prefix buffer at point `t`, at a class inside the array, holds that class's prefix. -/
theorem pre_apply (c : Dev nD) (t : Fin grid0.N) (d : S88x1x512.Idx → Elt F .f32) (i : S88x1x512.Idx) (k : S1000x1x512.Idx)
    (hi : (i 0).val < win0_3.xsize (grid0.coords t) 1) (h₀ : (k 0).val = t.val * 88 + (i 0).val)
    (h₁ : (k 1).val = (i 1).val) (h₂ : (k 2).val = (i 2).val) :
    win0_0.fill (grid0.coords t) d (iblk m c 0 t) i = m ((c : Thread nD τ).loc main_arg0) k := by
  refine fill_read_apply win0_0 t rfl (m ((c : Thread nD τ).loc main_arg0)) d i k (fun a => ?_) fun a => ?_
  · rw [xsize_0]
    match a with
    | ⟨0, _⟩ => exact hi
    | ⟨1, _⟩ => exact (i 1).isLt
    | ⟨2, _⟩ => exact (i 2).isLt
  · rw [index_0]
    match a with
    | ⟨0, _⟩ => exact h₀
    | ⟨1, _⟩ => exact h₁.trans (show _ = 0 * 1 + (i 1).val by omega)
    | ⟨2, _⟩ => exact h₂.trans (show _ = 0 * 512 + (i 2).val by omega)

/-- The suffix buffer likewise that class's suffix. -/
theorem suf_apply (c : Dev nD) (t : Fin grid0.N) (d : S88x72x512.Idx → Elt F .f32) (i : S88x72x512.Idx) (k : S1000x72x512.Idx)
    (hi : (i 0).val < win0_3.xsize (grid0.coords t) 1) (h₀ : (k 0).val = t.val * 88 + (i 0).val)
    (h₁ : (k 1).val = (i 1).val) (h₂ : (k 2).val = (i 2).val) :
    win0_2.fill (grid0.coords t) d (iblk m c 2 t) i = m ((c : Thread nD τ).loc main_arg2) k := by
  refine fill_read_apply win0_2 t rfl (m ((c : Thread nD τ).loc main_arg2)) d i k (fun a => ?_) fun a => ?_
  · rw [xsize_2]
    match a with
    | ⟨0, _⟩ => exact hi
    | ⟨1, _⟩ => exact (i 1).isLt
    | ⟨2, _⟩ => exact (i 2).isLt
  · rw [index_2]
    match a with
    | ⟨0, _⟩ => exact h₀
    | ⟨1, _⟩ => exact h₁.trans (show _ = 0 * 72 + (i 1).val by omega)
    | ⟨2, _⟩ => exact h₂.trans (show _ = 0 * 512 + (i 2).val by omega)

/-- The context buffer holds the whole context. -/
theorem ctx_eq (c : Dev nD) (t : Fin grid0.N) : iblk m c 1 t = m ((c : Thread nD τ).loc main_arg1) := by
  funext j
  refine congrArg (m ((c : Thread nD τ).loc main_arg1)) (funext fun a => Fin.ext ?_)
  refine (win0_1.rect_emb_val t j a rfl).trans ?_
  rw [index_1]
  match a with
  | ⟨0, _⟩ => exact (show 0 * 4 + (j 0).val = (j 0).val by omega)
  | ⟨1, _⟩ => exact (show 0 * 512 + (j 1).val = (j 1).val by omega)

/-- The stack of point `t`'s three buffers, on the classes inside the array, is point `t`'s block of the stack of the
    whole arrays — for any contents `d₀`, `d₂` of the input buffers past the array's end. -/
theorem cut_stacked (c : Dev nD) (t : Fin grid0.N) (d₀ : S88x1x512.Idx → Elt F .f32) (d₂ : S88x72x512.Idx → Elt F .f32) :
    win0_3.cut (grid0.coords t) (stacked (n := 88) (win0_0.fill (grid0.coords t) d₀ (iblk m c 0 t)) (iblk m c 1 t)
        (win0_2.fill (grid0.coords t) d₂ (iblk m c 2 t)))
      = (win0_3.blk t).view.read (Elt F) (whole m c) := by
  funext j
  rw [ctx_eq]
  have e : ∀ a : Fin 3, ((win0_3.rect t).emb j a).val = (![0, t.val, 0] : Fin 3 → Nat) a * win0_3.size a + (j a).val := fun a => by
    rw [← index_3 t]; exact win0_3.rect_emb_val t j a rfl
  have e0 : ((win0_3.rect t).emb j 0).val = (j 0).val := (e 0).trans (show 0 * 77 + (j 0).val = (j 0).val by omega)
  have e1 : ((win0_3.rect t).emb j 1).val = t.val * 88 + (j 1).val := e 1
  have e2 : ((win0_3.rect t).emb j 2).val = (j 2).val := (e 2).trans (show 0 * 512 + (j 2).val = (j 2).val by omega)
  have hj : (j 1).val < win0_3.xsize (grid0.coords t) 1 := (j 1).isLt
  refine stacked_congr (n := 88) (n' := 1000) _ _ _ _ _ (win0_3.xinj (grid0.coords t) j) ((win0_3.rect t).emb j) e0.symm e2.symm
    (fun i i' h h' h₁ h₂ => ?_) fun i i' h h' h₁ h₂ => ?_
  · have h : (i 0).val = (j 1).val := h
    exact pre_apply m c t d₀ i i' (h ▸ hj) (by rw [h, h', e1]) h₁.symm h₂.symm
  · have h : (i 0).val = (j 1).val := h
    exact suf_apply m c t d₂ i i' (h ▸ hj) (by rw [h, h', e1]) h₁.symm h₂.symm

end Cert.Concat

end
-- ==== Proof.Run.lean ====
/-
  The whole run: the kernel over its twelve blocks, then the transpose that makes the class the outer axis. It ends with
  the arguments unchanged, every counter at zero, and the result holding the transposed stack of the arguments — for any
  arithmetic, since the program only moves values.
-/
module

public import proofs.«01_k».proof.Proof.Blocks
public import Idealize.ShloMosaic.Lib.Claim

@[expose] public section

set_option maxRecDepth 16384

noncomputable section

namespace Cert.Concat

open Cert.KernelIdeal Cert.KernelIdeal.Gen Cert.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- A word for the part of a buffer that lies past the array's end; nothing reads it. -/
abbrev filler : Elt F .f32 := Scalar.ofBits .f32 0#32

/-- The proof data: the arrays as the region finds them; after the body at point `t` the input buffers at their blocks
    and the output's at its block of the stack of the whole arrays; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => filler) (iblk m c 0 t)
    | ⟨1, _⟩ => iblk m c 1 t
    | ⟨2, _⟩ => win0_2.fill (grid0.coords t) (fun _ => filler) (iblk m c 2 t)
    | ⟨3, _⟩ => win0_3.fill (grid0.coords t) (fun _ => filler) ((win0_3.blk t).view.read (Elt F) (whole m c))
  Φ _ := Pipeline.ΦA spec0 c
  q _ := fullShare
  owed _ := 0

/-- The data's arrays are the region-entry contents. -/
theorem dats_A (c : Dev nD) (w : Fin cfg0.W) : (dats m 0 c).A w = V m c (Pipeline.arrRef spec0 w) := by
  dsimp only [dats]

/-- The context buffer is left at its block. -/
theorem dats_after_1 (c : Dev nD) (t : Fin cfg0.N) : (dats m 0 c).after 1 t = iblk m c 1 t := by dsimp only [dats]

/-- The output buffer is left at its block of the stack of the whole arrays, filled out past the end. -/
theorem dats_after_3 (c : Dev nD) (t : Fin cfg0.N) : (dats m 0 c).after 3 t
    = win0_3.fill (grid0.coords t) (fun _ => filler) ((win0_3.blk t).view.read (Elt F) (whole m c)) := by dsimp only [dats]

/-- The body finds the prefix buffer just fetched: its block, and past the array's end whatever was there; -/
theorem dats_before_0 (c : Dev nD) (t : Fin cfg0.N) (d) :
    (dats m 0 c).before 0 t d = win0_0.fill (grid0.coords t) d (iblk m c 0 t) := if_pos (fetch0_0 t)
/-- the context buffer at the context; -/
theorem dats_before_1 (c : Dev nD) (t : Fin cfg0.N) (d) : (dats m 0 c).before 1 t d = iblk m c 1 t :=
  before0_1_of m (dats m 0 c) (dats_A m c 1) (dats_after_1 m c) t d
/-- and the suffix buffer just fetched. -/
theorem dats_before_2 (c : Dev nD) (t : Fin cfg0.N) (d) :
    (dats m 0 c).before 2 t d = win0_2.fill (grid0.coords t) d (iblk m c 2 t) := if_pos (fetch0_2 t)

/-! ## The body's obligation -/

/-- At every point the body, run on the point's buffers, leaves them as the proof data says on the part inside the
    arrays. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [dats_before_0 m c t d0, dats_before_1 m c t d1, dats_before_2 m c t d2]
  iapply (body_runs (F := F) (win0_0.fill (grid0.coords t) d0 (iblk m c 0 t)) (iblk m c 1 t)
    (win0_2.fill (grid0.coords t) d2 (iblk m c 2 t)) c (grid0.coords t)
    (stage0_0 (cfg0.slots t 0)) (hstage0_0 (cfg0.slots t 0)) (stage0_1 (cfg0.slots t 1)) (hstage0_1 (cfg0.slots t 1))
    (stage0_2 (cfg0.slots t 2)) (hstage0_2 (cfg0.slots t 2)) (stage0_3 (cfg0.slots t 3)) (hstage0_3 (cfg0.slots t 3)) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0
      (win0_0.cut (grid0.coords t) (win0_0.fill (grid0.coords t) (fun _ => filler) (iblk m c 0 t))))
    rw [win0_0.cut_fill]
  isplitl [H1]; · iexact H1
  isplitl [H2]
  · iexists d2
    change _ ⊢ owns (c : Thread nD τ) (stage0_2 (cfg0.slots t 2)) fullShare (win0_2.fill (grid0.coords t) d2
      (win0_2.cut (grid0.coords t) (win0_2.fill (grid0.coords t) (fun _ => filler) (iblk m c 2 t))))
    rw [win0_2.cut_fill]
  · iexists stacked (n := 88) (win0_0.fill (grid0.coords t) d0 (iblk m c 0 t)) (iblk m c 1 t) (win0_2.fill (grid0.coords t) d2 (iblk m c 2 t))
    change _ ⊢ owns (c : Thread nD τ) (stage0_3 (cfg0.slots t 3)) fullShare (win0_3.fill (grid0.coords t) _
      (win0_3.cut (grid0.coords t) (win0_3.fill (grid0.coords t) (fun _ => filler) ((win0_3.blk t).view.read (Elt F) (whole m c)))))
    rw [win0_3.cut_fill, ← cut_stacked m c t d0 d2, win0_3.fill_cut]

/-! ## The launch -/

set_option backward.isDefEq.respectTransparency.types false in
set_option maxHeartbeats 800000 in
/-- From any memory with every counter at zero, every weakly fair execution terminates, each array of the pipeline at
    what the proof data computes, every other buffer as the host operation leaves it, every counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

/-! ## What the result holds -/

/-- The kernel's output array ends holding the stack of the whole arguments: the twelve blocks cover it. -/
theorem out_array (c : Dev nD) : (dats m 0 c).arrAt 3 cfg0.N = whole m c :=
  (dats m 0 c).arrAt_eq_of_cover 3 (whole m c)
    (fun t _ => by
      change win0_3.cut (grid0.coords t) ((dats m 0 c).after 3 t) = _
      rw [dats_after_3, win0_3.cut_fill])
    (Window.Covers.cover win0_3 (by decide +kernel) (Memref.isWhole_whole _))

/-- The result: the stack with the class made the outer axis. -/
def result (c : Dev nD) : S1000x77x512.Idx → Elt F .f32 :=
  transpose S1000x77x512 [1, 0, 2] (whole m c) transposes_S77x1000x512_S1000x77x512_1_0_2

/-- The host operation leaves the result buffer at the transposed stack. -/
theorem tail_result (c : Dev nD) : Pipeline.afterTail₀ cfgs (dats m) 0 (V0 m) [hostOps1] c main_v1 = result m c := by
  have hv : Pipeline.withArrays (cfgs 0).spec c (V0 m c) (fun w => (dats m 0 c).arrAt w (cfgs 0).N) (Proc.devRef .tc main_v0) = whole m c :=
    (Pipeline.withArrays_arr (cfgs 0).spec winFacts0.arr_inj c (V0 m c) (fun w => (dats m 0 c).arrAt w (cfgs 0).N) 3).trans (out_array m c)
  unfold Pipeline.afterTail₀ result
  rw [← hv]
  rfl

/-- The run read at the result and the arguments. -/
theorem run_result : θ_run defs (onTc (τ := τ) (main (F := F))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2.1 c).2 main_v1 (by decide)).trans (tail_result m c), h.1.1 c⟩)
    (θ_run_and (frame m ρ) (run_main m ρ))

end Cert.Concat

end
-- ==== Proof.Reference.lean ====
/-
  What the reference computes: the concatenation, along the rows, of the prefixes, the context repeated for every class
  and the suffixes. It is the stack of the arguments with the class made the outer axis, element for element.
-/
module

public import proofs.«01_k».proof.Proof.Run
public import proofs.«01_k».proof.Proof.Gen.ReferenceIdeal.Run

@[expose] public section

noncomputable section

namespace Cert.Concat

open Cert.ReferenceIdeal Cert.ReferenceIdeal.Gen Cert.Rows
open Idealize.ShloMosaic Idealize.ShloMosaic.TcCoe Idealize.ShloMosaic.ValueIdx

variable {α : Type}

/-- The context repeated for every class, read at a class: the context, whatever the class. -/
theorem repeated_apply (x1 : S4x512.Idx → α) (j : S1000x4x512.Idx) :
    broadcastInDim S1000x4x512 ![0, 1, 2] bcast_S1x4x512_S1000x4x512_0_1_2
      (broadcastInDim S1x4x512 ![1, 2] bcast_S4x512_S1x4x512_1_2 x1) j = x1 (ix2 (j 1) (j 2)) := by
  refine (broadcastInDim_apply _ _ _ _ (ix3 (0 : Fin 1) (j 1) (j 2)) fun a => ?_).trans
    (broadcastInDim_apply _ _ _ _ (ix2 (j 1) (j 2)) fun a => ?_)
  · match a with
    | ⟨0, _⟩ => rfl
    | ⟨1, _⟩ => rfl
    | ⟨2, _⟩ => rfl
  · match a with
    | ⟨0, _⟩ => rfl
    | ⟨1, _⟩ => rfl

/-- The reference's operands, in order. -/
abbrev operands (x0 : S1000x1x512.Idx → α) (x1 : S4x512.Idx → α) (x2 : S1000x72x512.Idx → α) : List ((s : Shape) × (s.Idx → α)) :=
  [⟨S1000x1x512, x0⟩, ⟨S1000x4x512, broadcastInDim S1000x4x512 ![0, 1, 2] bcast_S1x4x512_S1000x4x512_0_1_2
    (broadcastInDim S1x4x512 ![1, 2] bcast_S4x512_S1x4x512_1_2 x1)⟩, ⟨S1000x72x512, x2⟩]

/-- The concatenation read at class `b`, row `r`, lane `l` is the stack read at row `r`, class `b`, lane `l`. -/
theorem concatenate_apply (x0 : S1000x1x512.Idx → α) (x1 : S4x512.Idx → α) (x2 : S1000x72x512.Idx → α)
    (h : Shape.Concatenates ((operands x0 x1 x2).map (·.1)) S1000x77x512 1) (b : Fin 1000) (r : Fin 77) (l : Fin 512) :
    concatenate S1000x77x512 1 (operands x0 x1 x2) h (ix3 b r l) = stacked (n := 1000) x0 x1 x2 (ix3 r b l) := by
  have off : ∀ (n : Nat) (i : Fin n) (a : Fin 3), a ≠ 1 → ((ix3 b i l : (⟨3, ![1000, n, 512]⟩ : Shape).Idx) a).val
      = ((ix3 b r l : S1000x77x512.Idx) a).val := fun n i a ha => by
    match a with
    | ⟨0, _⟩ => rfl
    | ⟨1, _⟩ => exact absurd rfl ha
    | ⟨2, _⟩ => rfl
  by_cases c₀ : r.val = 0
  · rw [stacked_pre (n := 1000) x0 x1 x2 (ix3 r b l) (ix3 b (0 : Fin 1) l) c₀ rfl rfl]
    exact concatenate_apply_piece 1 _ h _ 0 (by decide : 0 < 3) S1000x1x512 x0 rfl rfl 0 rfl (ix3 b (0 : Fin 1) l)
      (off 1 0) (show 0 + 0 = r.val by omega)
  by_cases c₁ : r.val < 5
  · rw [stacked_ctx (n := 1000) x0 x1 x2 (ix3 r b l) (ix2 (⟨r.val - 1, by omega⟩ : Fin 4) l) (show r.val = 1 + (r.val - 1) by omega) rfl]
    exact (concatenate_apply_piece 1 _ h _ 1 (by decide : 1 < 3) S1000x4x512 _ rfl rfl 1 rfl (ix3 b (⟨r.val - 1, by omega⟩ : Fin 4) l)
      (off 4 _) (show 1 + (r.val - 1) = r.val by omega)).trans (repeated_apply x1 _)
  · rw [stacked_suf (n := 1000) x0 x1 x2 (ix3 r b l) (ix3 b (⟨r.val - 5, by omega⟩ : Fin 72) l) (show r.val = 5 + (r.val - 5) by omega) rfl rfl]
    exact concatenate_apply_piece 1 _ h _ 2 (by decide : 2 < 3) S1000x72x512 x2 rfl rfl 5 rfl (ix3 b (⟨r.val - 5, by omega⟩ : Fin 72) l)
      (off 72 _) (show 5 + (r.val - 5) = r.val by omega)

/-- The concatenation is the stack with the class made the outer axis. -/
theorem concatenate_eq (x0 : S1000x1x512.Idx → α) (x1 : S4x512.Idx → α) (x2 : S1000x72x512.Idx → α)
    (h : Shape.Concatenates ((operands x0 x1 x2).map (·.1)) S1000x77x512 1)
    (h' : Shape.Transposes (⟨3, ![77, 1000, 512]⟩ : Shape) [1, 0, 2] S1000x77x512) :
    concatenate S1000x77x512 1 (operands x0 x1 x2) h = transpose S1000x77x512 [1, 0, 2] (stacked (n := 1000) x0 x1 x2) h' := by
  funext j
  obtain ⟨b, r, l, rfl⟩ : ∃ b r l, j = ix3 b r l := ⟨j 0, j 1, j 2, eq_ix3 j⟩
  refine (concatenate_apply x0 x1 x2 h b r l).trans (transpose_apply _ _ _ _ (ix3 r b l) fun a => ?_).symm
  match a with
  | ⟨0, _⟩ => rfl
  | ⟨1, _⟩ => rfl
  | ⟨2, _⟩ => rfl

end Cert.Concat

end
-- ==== Proof.lean ====
/-
  The proof of `Cert.Claim`: the kernel as compiled and its idealization end with their arguments unchanged and every
  counter at zero, so does the reference, and kernel and reference end with equal results. Proof/Body.lean is what one
  block computes, Proof/Blocks.lean what a block is of the whole arrays, Proof/Run.lean the whole run,
  Proof/Reference.lean the reference's value; this module puts them together.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import Idealize.ShloMosaic.Adequacy
public import Idealize.ShloMosaic.Init

@[expose] public section

noncomputable section

namespace Cert.Proof

open Idealize.ShloMosaic Idealize.SL.Sem

/-- The compiled kernel's body table and pipelines are its idealization's: no operation was rewritten. -/
theorem defs_eq {F : FTy → Type} [FloatOps F] : Cert.Kernel.defs (F := F) = Cert.KernelIdeal.defs (F := F) := by
  sl_kernel_rfl

/-- And so is its host program. -/
theorem main_eq {F : FTy → Type} [FloatOps F] : Cert.Kernel.main (F := F) = Cert.KernelIdeal.main (F := F) := rfl

/-- The kernel as compiled, on bit patterns: it is its idealization's text, so the run proved for any arithmetic in
    Proof/Run.lean, read at bit patterns, is its run. -/
theorem frame_Kernel : Cert.quiescent_Kernel := fun m ρ _ => by
  rw [defs_eq, main_eq]
  exact Cert.Concat.frame (F := Bits) m ρ

/-- The idealized kernel: the same run read at extended reals. -/
theorem frame_KernelIdeal : Cert.quiescent_KernelIdeal := fun m ρ _ => Cert.Concat.frame (F := Ideal) m ρ

/-- The reference ends with its arguments unchanged; it declares no semaphore, so no counter is ever up. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the idealized kernel and the reference end with equal results: the transposed stack of the
    arguments. -/
theorem algebraic : Cert.algebraic_KernelIdeal_ReferenceIdeal := fun m ρ m' ρ' _ hagree =>
  ⟨Cert.Concat.result m, Cert.Concat.run_result (F := Ideal) m ρ,
    (θ_run Cert.ReferenceIdeal.defs _ _).mono (fun _ h c => ⟨(h c).1.trans (by
      rw [(hagree c).1, (hagree c).2.1, (hagree c).2.2]
      exact Cert.Concat.concatenate_eq _ _ _ _ _), (h c).2⟩)
      (Cert.ReferenceIdeal.Value.run (F := Ideal) m' ρ')⟩

/-- The whole certificate. -/
theorem claim : Cert.Claim :=
  ⟨Cert.Kernel.Gen.facts, Cert.KernelIdeal.Gen.facts, Cert.ReferenceIdeal.Gen.facts,
    frame_Kernel, frame_KernelIdeal, frame_ReferenceIdeal, trivial, algebraic⟩

end Cert.Proof

end
